-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x64x64x64 : Shape := ⟨4, ![2, 64, 64, 64]⟩
abbrev S16x64 : Shape := ⟨2, ![16, 64]⟩
abbrev S16 : Shape := ⟨1, ![16]⟩
abbrev S64x16 : Shape := ⟨2, ![64, 16]⟩
abbrev S64 : Shape := ⟨1, ![64]⟩
abbrev S8192x64 : Shape := ⟨2, ![8192, 64]⟩
abbrev S8192x16 : Shape := ⟨2, ![8192, 16]⟩
abbrev S1x16 : Shape := ⟨2, ![1, 16]⟩
abbrev S16x8192 : Shape := ⟨2, ![16, 8192]⟩
abbrev S8192x8192 : Shape := ⟨2, ![8192, 8192]⟩
abbrev S256x16 : Shape := ⟨2, ![256, 16]⟩
abbrev S256x8192 : Shape := ⟨2, ![256, 8192]⟩
abbrev S1x8192 : Shape := ⟨2, ![1, 8192]⟩
abbrev S8192 : Shape := ⟨1, ![8192]⟩
abbrev S256 : Shape := ⟨1, ![256]⟩
abbrev S256x1 : Shape := ⟨2, ![256, 1]⟩
abbrev S8192x100 : Shape := ⟨2, ![8192, 100]⟩
abbrev S_ : Shape := ⟨0, ![]⟩
abbrev S8192x1 : Shape := ⟨2, ![8192, 1]⟩
abbrev S8192x100x1 : Shape := ⟨3, ![8192, 100, 1]⟩
abbrev S1 : Shape := ⟨1, ![1]⟩
abbrev S1x1x1 : Shape := ⟨3, ![1, 1, 1]⟩
abbrev S8192x100x16 : Shape := ⟨3, ![8192, 100, 16]⟩
abbrev S2x64x64x16 : Shape := ⟨4, ![2, 64, 64, 16]⟩
abbrev S2x16x64x64 : Shape := ⟨4, ![2, 16, 64, 64]⟩
abbrev S64x2x64x64 : Shape := ⟨4, ![64, 2, 64, 64]⟩
abbrev S1x64x1x1 : Shape := ⟨4, ![1, 64, 1, 1]⟩

abbrev nBuf : Space → Nat
  | .hbm => 79
  | .vmem => 6
  | .smem => 0
  | _ => 0

abbrev bufTy : (tb : Table) → Fin (tcTables nBuf tb) → BufTy
  | .hbm, ⟨0, _⟩ => ⟨S2x64x64x64, .f32⟩
  | .hbm, ⟨1, _⟩ => ⟨S16x64, .f32⟩
  | .hbm, ⟨2, _⟩ => ⟨S16, .f32⟩
  | .hbm, ⟨3, _⟩ => ⟨S16x64, .f32⟩
  | .hbm, ⟨4, _⟩ => ⟨S16, .f32⟩
  | .hbm, ⟨5, _⟩ => ⟨S16x64, .f32⟩
  | .hbm, ⟨6, _⟩ => ⟨S16, .f32⟩
  | .hbm, ⟨7, _⟩ => ⟨S64x16, .f32⟩
  | .hbm, ⟨8, _⟩ => ⟨S64, .f32⟩
  | .hbm, ⟨9, _⟩ => ⟨S2x64x64x64, .f32⟩
  | .hbm, ⟨10, _⟩ => ⟨S8192x64, .f32⟩
  | .hbm, ⟨11, _⟩ => ⟨S64x16, .f32⟩
  | .hbm, ⟨12, _⟩ => ⟨S8192x16, .f32⟩
  | .hbm, ⟨13, _⟩ => ⟨S1x16, .f32⟩
  | .hbm, ⟨14, _⟩ => ⟨S8192x16, .f32⟩
  | .hbm, ⟨15, _⟩ => ⟨S8192x16, .f32⟩
  | .hbm, ⟨16, _⟩ => ⟨S64x16, .f32⟩
  | .hbm, ⟨17, _⟩ => ⟨S8192x16, .f32⟩
  | .hbm, ⟨18, _⟩ => ⟨S1x16, .f32⟩
  | .hbm, ⟨19, _⟩ => ⟨S8192x16, .f32⟩
  | .hbm, ⟨20, _⟩ => ⟨S8192x16, .f32⟩
  | .hbm, ⟨21, _⟩ => ⟨S64x16, .f32⟩
  | .hbm, ⟨22, _⟩ => ⟨S8192x16, .f32⟩
  | .hbm, ⟨23, _⟩ => ⟨S1x16, .f32⟩
  | .hbm, ⟨24, _⟩ => ⟨S8192x16, .f32⟩
  | .hbm, ⟨25, _⟩ => ⟨S8192x16, .f32⟩
  | .hbm, ⟨26, _⟩ => ⟨S16x8192, .f32⟩
  | .hbm, ⟨27, _⟩ => ⟨S8192x8192, .f32⟩
  | .hbm, ⟨28, _⟩ => ⟨S8192x100, .f32⟩
  | .hbm, ⟨29, _⟩ => ⟨S8192x100, .i32⟩
  | .hbm, ⟨30, _⟩ => ⟨S_, .f32⟩
  | .hbm, ⟨31, _⟩ => ⟨S8192x100, .f32⟩
  | .hbm, ⟨32, _⟩ => ⟨S8192x100, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S8192x100, .f32⟩
  | .hbm, ⟨40, _⟩ => ⟨S8192x100, .f32⟩
  | .hbm, ⟨41, _⟩ => ⟨S8192x100, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x100, .f32⟩
  | .hbm, ⟨46, _⟩ => ⟨S8192x100, .f32⟩
  | .hbm, ⟨47, _⟩ => ⟨S_, .i32⟩
  | .hbm, ⟨48, _⟩ => ⟨S8192x100, .i32⟩
  | .hbm, ⟨49, _⟩ => ⟨S8192x100, .i1⟩
  | .hbm, ⟨50, _⟩ => ⟨S_, .i32⟩
  | .hbm, ⟨51, _⟩ => ⟨S8192x100, .i32⟩
  | .hbm, ⟨52, _⟩ => ⟨S8192x100, .i32⟩
  | .hbm, ⟨53, _⟩ => ⟨S8192x100, .i32⟩
  | .hbm, ⟨54, _⟩ => ⟨S8192x100x1, .i32⟩
  | .hbm, ⟨55, _⟩ => ⟨S1, .i32⟩
  | .hbm, ⟨56, _⟩ => ⟨S_, .i32⟩
  | .hbm, ⟨57, _⟩ => ⟨S8192x100x1, .i32⟩
  | .hbm, ⟨58, _⟩ => ⟨S8192x100x1, .i1⟩
  | .hbm, ⟨59, _⟩ => ⟨S1x1x1, .i32⟩
  | .hbm, ⟨60, _⟩ => ⟨S8192x100x1, .i32⟩
  | .hbm, ⟨61, _⟩ => ⟨S8192x100x1, .i1⟩
  | .hbm, ⟨62, _⟩ => ⟨S8192x100x1, .i1⟩
  | .hbm, ⟨63, _⟩ => ⟨S_, .i1⟩
  | .hbm, ⟨64, _⟩ => ⟨S8192x100, .i1⟩
  | .hbm, ⟨65, _⟩ => ⟨S8192x100x16, .f32⟩
  | .hbm, ⟨66, _⟩ => ⟨S8192x100x16, .i1⟩
  | .hbm, ⟨67, _⟩ => ⟨S_, .f32⟩
  | .hbm, ⟨68, _⟩ => ⟨S8192x100x16, .f32⟩
  | .hbm, ⟨69, _⟩ => ⟨S8192x100x16, .f32⟩
  | .hbm, ⟨70, _⟩ => ⟨S8192x16, .f32⟩
  | .hbm, ⟨71, _⟩ => ⟨S2x64x64x16, .f32⟩
  | .hbm, ⟨72, _⟩ => ⟨S2x16x64x64, .f32⟩
  | .hbm, ⟨73, _⟩ => ⟨S64x2x64x64, .f32⟩
  | .hbm, ⟨74, _⟩ => ⟨S2x64x64x64, .f32⟩
  | .hbm, ⟨75, _⟩ => ⟨S1x64x1x1, .f32⟩
  | .hbm, ⟨76, _⟩ => ⟨S2x64x64x64, .f32⟩
  | .hbm, ⟨77, _⟩ => ⟨S2x64x64x64, .f32⟩
  | .hbm, ⟨78, _⟩ => ⟨S2x64x64x64, .f32⟩
  | .local _ .vmem, ⟨0, _⟩ => ⟨S256x16, .f32⟩
  | .local _ .vmem, ⟨1, _⟩ => ⟨S256x16, .f32⟩
  | .local _ .vmem, ⟨2, _⟩ => ⟨S16x8192, .f32⟩
  | .local _ .vmem, ⟨3, _⟩ => ⟨S256x8192, .f32⟩
  | .local _ .vmem, ⟨4, _⟩ => ⟨S256x8192, .f32⟩
  | .local _ .vmem, ⟨5, _⟩ => ⟨S1x8192, .f32⟩
  | _, _ => ⟨S2x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_values : Ref sig .tc := ⟨.hbm, 28, rfl⟩
abbrev main_indices : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_cst : Ref sig .tc := ⟨.hbm, 67, rfl⟩
abbrev main_call0_v15 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x64x64x64 : Shape := ⟨4, ![2, 64, 64, 64]⟩
abbrev S16x64 : Shape := ⟨2, ![16, 64]⟩
abbrev S16 : Shape := ⟨1, ![16]⟩
abbrev S64x16 : Shape := ⟨2, ![64, 16]⟩
abbrev S64 : Shape := ⟨1, ![64]⟩
abbrev S16x2x64x64 : Shape := ⟨4, ![16, 2, 64, 64]⟩
abbrev S2x16x64x64 : Shape := ⟨4, ![2, 16, 64, 64]⟩
abbrev S1x16x1x1 : Shape := ⟨4, ![1, 16, 1, 1]⟩
abbrev S2x64x64x16 : Shape := ⟨4, ![2, 64, 64, 16]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S16x8192 : Shape := ⟨2, ![16, 8192]⟩
abbrev S8192x8192 : Shape := ⟨2, ![8192, 8192]⟩
abbrev S1x8192 : Shape := ⟨2, ![1, 8192]⟩
abbrev S8192x100 : Shape := ⟨2, ![8192, 100]⟩
abbrev S8192x100x1 : Shape := ⟨3, ![8192, 100, 1]⟩
abbrev S1 : Shape := ⟨1, ![1]⟩
abbrev S1x1x1 : Shape := ⟨3, ![1, 1, 1]⟩
abbrev S8192x100x16 : Shape := ⟨3, ![8192, 100, 16]⟩
abbrev S64x2x64x64 : Shape := ⟨4, ![64, 2, 64, 64]⟩
abbrev S1x64x1x1 : Shape := ⟨4, ![1, 64, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S2x64x64x64, .f32⟩
  | .hbm, ⟨1, _⟩ => ⟨S16x64, .f32⟩
  | .hbm, ⟨2, _⟩ => ⟨S16, .f32⟩
  | .hbm, ⟨3, _⟩ => ⟨S16x64, .f32⟩
  | .hbm, ⟨4, _⟩ => ⟨S16, .f32⟩
  | .hbm, ⟨5, _⟩ => ⟨S16x64, .f32⟩
  | .hbm, ⟨6, _⟩ => ⟨S16, .f32⟩
  | .hbm, ⟨7, _⟩ => ⟨S64x16, .f32⟩
  | .hbm, ⟨8, _⟩ => ⟨S64, .f32⟩
  | .hbm, ⟨9, _⟩ => ⟨S16x2x64x64, .f32⟩
  | .hbm, ⟨10, _⟩ => ⟨S2x16x64x64, .f32⟩
  | .hbm, ⟨11, _⟩ => ⟨S1x16x1x1, .f32⟩
  | .hbm, ⟨12, _⟩ => ⟨S2x16x64x64, .f32⟩
  | .hbm, ⟨13, _⟩ => ⟨S2x16x64x64, .f32⟩
  | .hbm, ⟨14, _⟩ => ⟨S16x2x64x64, .f32⟩
  | .hbm, ⟨15, _⟩ => ⟨S2x16x64x64, .f32⟩
  | .hbm, ⟨16, _⟩ => ⟨S1x16x1x1, .f32⟩
  | .hbm, ⟨17, _⟩ => ⟨S2x16x64x64, .f32⟩
  | .hbm, ⟨18, _⟩ => ⟨S2x16x64x64, .f32⟩
  | .hbm, ⟨19, _⟩ => ⟨S16x2x64x64, .f32⟩
  | .hbm, ⟨20, _⟩ => ⟨S2x16x64x64, .f32⟩
  | .hbm, ⟨21, _⟩ => ⟨S1x16x1x1, .f32⟩
  | .hbm, ⟨22, _⟩ => ⟨S2x16x64x64, .f32⟩
  | .hbm, ⟨23, _⟩ => ⟨S2x16x64x64, .f32⟩
  | .hbm, ⟨24, _⟩ => ⟨S2x64x64x16, .f32⟩
  | .hbm, ⟨25, _⟩ => ⟨S8192x16, .f32⟩
  | .hbm, ⟨26, _⟩ => ⟨S2x64x64x16, .f32⟩
  | .hbm, ⟨27, _⟩ => ⟨S8192x16, .f32⟩
  | .hbm, ⟨28, _⟩ => ⟨S2x64x64x16, .f32⟩
  | .hbm, ⟨29, _⟩ => ⟨S8192x16, .f32⟩
  | .hbm, ⟨30, _⟩ => ⟨S8192x16, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x16, .f32⟩
  | .hbm, ⟨35, _⟩ => ⟨S_, .f32⟩
  | .hbm, ⟨36, _⟩ => ⟨S8192, .f32⟩
  | .hbm, ⟨37, _⟩ => ⟨S16x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S1x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x100, .f32⟩
  | .hbm, ⟨49, _⟩ => ⟨S8192x100, .i32⟩
  | .hbm, ⟨50, _⟩ => ⟨S_, .f32⟩
  | .hbm, ⟨51, _⟩ => ⟨S8192x100, .f32⟩
  | .hbm, ⟨52, _⟩ => ⟨S8192x100, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192x1, .f32⟩
  | .hbm, ⟨59, _⟩ => ⟨S8192x100, .f32⟩
  | .hbm, ⟨60, _⟩ => ⟨S8192x100, .f32⟩
  | .hbm, ⟨61, _⟩ => ⟨S8192x100, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x100, .f32⟩
  | .hbm, ⟨66, _⟩ => ⟨S8192x100, .f32⟩
  | .hbm, ⟨67, _⟩ => ⟨S_, .i32⟩
  | .hbm, ⟨68, _⟩ => ⟨S8192x100, .i32⟩
  | .hbm, ⟨69, _⟩ => ⟨S8192x100, .i1⟩
  | .hbm, ⟨70, _⟩ => ⟨S_, .i32⟩
  | .hbm, ⟨71, _⟩ => ⟨S8192x100, .i32⟩
  | .hbm, ⟨72, _⟩ => ⟨S8192x100, .i32⟩
  | .hbm, ⟨73, _⟩ => ⟨S8192x100, .i32⟩
  | .hbm, ⟨74, _⟩ => ⟨S8192x100x1, .i32⟩
  | .hbm, ⟨75, _⟩ => ⟨S1, .i32⟩
  | .hbm, ⟨76, _⟩ => ⟨S_, .i32⟩
  | .hbm, ⟨77, _⟩ => ⟨S8192x100x1, .i32⟩
  | .hbm, ⟨78, _⟩ => ⟨S8192x100x1, .i1⟩
  | .hbm, ⟨79, _⟩ => ⟨S1x1x1, .i32⟩
  | .hbm, ⟨80, _⟩ => ⟨S8192x100x1, .i32⟩
  | .hbm, ⟨81, _⟩ => ⟨S8192x100x1, .i1⟩
  | .hbm, ⟨82, _⟩ => ⟨S8192x100x1, .i1⟩
  | .hbm, ⟨83, _⟩ => ⟨S_, .i1⟩
  | .hbm, ⟨84, _⟩ => ⟨S8192x100, .i1⟩
  | .hbm, ⟨85, _⟩ => ⟨S8192x100x16, .f32⟩
  | .hbm, ⟨86, _⟩ => ⟨S8192x100x16, .i1⟩
  | .hbm, ⟨87, _⟩ => ⟨S_, .f32⟩
  | .hbm, ⟨88, _⟩ => ⟨S8192x100x16, .f32⟩
  | .hbm, ⟨89, _⟩ => ⟨S8192x100x16, .f32⟩
  | .hbm, ⟨90, _⟩ => ⟨S8192x16, .f32⟩
  | .hbm, ⟨91, _⟩ => ⟨S2x64x64x16, .f32⟩
  | .hbm, ⟨92, _⟩ => ⟨S2x16x64x64, .f32⟩
  | .hbm, ⟨93, _⟩ => ⟨S64x2x64x64, .f32⟩
  | .hbm, ⟨94, _⟩ => ⟨S2x64x64x64, .f32⟩
  | .hbm, ⟨95, _⟩ => ⟨S1x64x1x1, .f32⟩
  | .hbm, ⟨96, _⟩ => ⟨S2x64x64x64, .f32⟩
  | .hbm, ⟨97, _⟩ => ⟨S2x64x64x64, .f32⟩
  | .hbm, ⟨98, _⟩ => ⟨S2x64x64x64, .f32⟩
  | _, _ => ⟨S2x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_values : Ref sig .tc := ⟨.hbm, 48, rfl⟩
abbrev main_indices : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_c : Ref sig .tc := ⟨.hbm, 67, rfl⟩
abbrev main_call0_v0 : Ref sig .tc := ⟨.hbm, 68, rfl⟩
abbrev main_call0_v1 : Ref sig .tc := ⟨.hbm, 69, rfl⟩
abbrev main_call0_c_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_c_1 : Ref sig .tc := ⟨.hbm, 75, rfl⟩
abbrev main_call0_c_2 : Ref sig .tc := ⟨.hbm, 76, rfl⟩
abbrev main_call0_v6 : Ref sig .tc := ⟨.hbm, 77, rfl⟩
abbrev main_call0_v7 : Ref sig .tc := ⟨.hbm, 78, rfl⟩
abbrev main_call0_v8 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_3 : Ref sig .tc := ⟨.hbm, 83, rfl⟩
abbrev main_call0_v12 : Ref sig .tc := ⟨.hbm, 84, rfl⟩
abbrev main_call0_v13 : Ref sig .tc := ⟨.hbm, 85, rfl⟩
abbrev main_call0_v14 : Ref sig .tc := ⟨.hbm, 86, rfl⟩
abbrev main_call0_cst : Ref sig .tc := ⟨.hbm, 87, rfl⟩
abbrev main_call0_v15 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩

abbrev nD : Nat := 1
abbrev τ : Topo := Topo.v7x

variable {F : FTy → Type} [FloatOps F]
-- ==== Proof.Block.lean ====
/-
  What one grid point of the distance kernel leaves behind: its block of 256 rows of distances, and the row of key norms
  which the first point computes and all later points read.
-/
module

public import proofs.«01_k».proof.Defs
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]
variable (m : (ℓ : Loc nD τ sig) → Buf (Elt F) ℓ)

section Cases

variable (c : Dev nD) (i : grid0.Coords) (a1 : Memref sig .tc .vmem S256x16 .f32) (h1 : a1.IsWhole)
  (a2 : Memref sig .tc .vmem S16x8192 .f32) (h2 : a2.IsWhole) (a3 : Memref sig .tc .vmem S256x8192 .f32) (h3 : a3.IsWhole)
  (a4 : Memref sig .tc .vmem S1x8192 .f32) (h4 : a4.IsWhole)

/-- The first point stores, as the carried row, the key norms it computes from its keys. -/
theorem norms_first (hc : cond0_0 i) (q : Vec F S256x16 .f32) (k : Vec F S16x8192 .f32) :
    sout0_A_0 c i a1 h1 a2 h2 a3 h3 a4 h4 hc q k = k0_pay1 k := by
  frame_out

/-- The first point stores the distances of its queries to all keys, the key norms being the ones it has just stored. -/
theorem dists_first (hc : cond0_0 i) (q : Vec F S256x16 .f32) (k : Vec F S16x8192 .f32) :
    out0_A_2 c i a1 h1 a2 h2 a3 h3 a4 h4 hc q k = k0_pay2 q k (k0_pay1 k) := by
  frame_out

/-- A later point stores the distances of its queries to all keys, the key norms being the ones it finds. -/
theorem dists_later (hc : ¬cond0_0 i) (q : Vec F S256x16 .f32) (k : Vec F S16x8192 .f32) (n : Vec F S1x8192 .f32) :
    out0_B_2 c i a1 h1 a2 h2 a3 h3 a4 h4 hc q k n = k0_pay2 q k n := by
  frame_out

end Cases

/-- The keys' window is the whole transposed key array at every point. -/
theorem keys_whole (c : Dev nD) (t : Fin cfg0.N) :
    (iblk m c 1 t : Vec F S16x8192 .f32) = V m c main_v17 := by
  have place : ∀ t : Fin grid0.N, win0_1.index t = ![0, 0] := by decide +kernel
  funext j
  blk_ext [iblk, place t]

/-- After every point the carried row holds the norms of all keys: the first point computes them, no later point
    overwrites them. -/
theorem norms_carried (c : Dev nD) : ∀ (n : ℕ) (h : n < cfg0.N),
    (outsAt0 m c n h).2 = k0_pay1 (V m c main_v17 : Vec F S16x8192 .f32)
  | 0, h => by
    rw [show outsAt0 m c 0 h = _ from outsAt0_A m c ⟨0, h⟩ rfl, norms_first, keys_whole]
  | n + 1, h => by
    have inside : n + 1 < 32 := h
    have later : ¬(n + 1) % 32 = 0 := by omega
    rw [show outsAt0 m c (n + 1) h = _ from outsAt0_B m c ⟨n + 1, h⟩ later]
    exact norms_carried c n (Nat.lt_of_succ_lt h)

/-- After every point the output block holds the distances of the point's queries to all keys. -/
theorem dists_left (c : Dev nD) (t : Fin cfg0.N) :
    (outsAt0 m c t.val t.isLt).1 = k0_pay2 (iblk m c 0 t : Vec F S256x16 .f32) (V m c main_v17 : Vec F S16x8192 .f32)
      (k0_pay1 (V m c main_v17 : Vec F S16x8192 .f32)) := by
  by_cases first : t.val % 32 = 0
  · rw [outsAt0_A m c t first, dists_first, keys_whole]
  · rw [outsAt0_B m c t first, dists_later, keys_whole, norms_carried]

end Cert.KernelIdeal.Block

end
-- ==== Proof.Dists.lean ====
/-
  The whole array of distances which the kernel leaves, entry by entry, over extended reals.
-/
module

public import proofs.«01_k».proof.Proof.Block
public import Idealize.ShloMosaic.Lib.Pointwise

@[expose] public section

set_option maxRecDepth 16384

noncomputable section

open Idealize.ShloMosaic Idealize.ShloMosaic.TcCoe Idealize.SL.Sem

namespace Cert.KernelIdeal.Dists

open Cert.KernelIdeal Cert.KernelIdeal.Gen

variable (m : (ℓ : Loc nD τ sig) → Buf (Elt Ideal) ℓ)

/-- The sum of the squares of row `i` of a matrix with sixteen columns. -/
def sqNorm {n : ℕ} (x : Fin n → Fin 16 → EReal) (i : Fin n) : EReal := ∑ d : Fin 16, x i d * x i d

/-- The factor in front of the scalar products, read off the constant which both programs print for it. -/
def two : EReal := Ideal.ofBits .f32 0x40000000#32

/-- The negated squared distance of query `i` to key `j`, in its expanded form. -/
def negDist {n : ℕ} (q : Fin n → Fin 16 → EReal) (k : Fin 8192 → Fin 16 → EReal) (i : Fin n) (j : Fin 8192) : EReal :=
  0 - (sqNorm q i - two * (∑ d : Fin 16, q i d * k j d) + sqNorm k j)

/-- The distance depends on the query's own row alone. -/
theorem negDist_rows {n n' : ℕ} (q : Fin n → Fin 16 → EReal) (q' : Fin n' → Fin 16 → EReal) (k : Fin 8192 → Fin 16 → EReal)
    (i : Fin n) (i' : Fin n') (j : Fin 8192) (same : ∀ d, q i d = q' i' d) : negDist q k i j = negDist q' k i' j := by
  unfold negDist sqNorm
  simp only [same]

/-- The block of distances computed from a block of queries and the transposed keys, entry by entry. -/
theorem block_apply (q : Vec Ideal S256x16 .f32) (k : Vec Ideal S16x8192 .f32) (r : Fin 256) (j : Fin 8192) :
    k0_pay2 q k (k0_pay1 k) (ix2 r j) = negDist (fun i d => q (ix2 i d)) (fun i d => k (ix2 d i)) r j := by
  unfold negDist sqNorm two
  pointwise [k0_pay2, k0_pay1]

/-- The array of distances after the run. -/
theorem array (c : Dev nD) :
    ((dats m 0 c).arrAt 2 (cfgs 0).N : Vec Ideal S8192x8192 .f32) = fun y =>
      negDist (fun i d => (V m c main_v6 : Vec Ideal S8192x16 .f32) (ix2 i d))
        (fun i d => (V m c main_v17 : Vec Ideal S16x8192 .f32) (ix2 d i)) (y 0) (y 1) := by
  refine (dats m 0 c).arrAt_eq_of_covers 2 _ (by decide +kernel) fun t hf y => ?_
  blk_simp
  have place : ∀ t : Fin grid0.N, win0_2.index t = ![t.val, 0] ∧ win0_0.index t = ![t.val, 0] := by decide +kernel
  rw [after0_2, Block.dists_left]
  obtain ⟨r, j, rfl⟩ : ∃ (r : Fin 256) (j : Fin 8192), y = ix2 r j := ⟨y 0, y 1, eq_ix2 y⟩
  refine (block_apply _ _ r j).trans ?_
  have row : ((win0_2.blk t).view.emb (ix2 r j) 1 : Fin 8192) = j := by
    refine Fin.ext ?_
    blk_simp [(place t).1]
  rw [row]
  refine negDist_rows _ _ _ _ _ _ fun d => ?_
  blk_ext [iblk, (place t).1, (place t).2]

end Cert.KernelIdeal.Dists

end
-- ==== Proof.Tail.lean ====
/-
  What the host does with the distances: the hundred nearest keys of every query, the softmax of their distances, the values
  at their indices, the weighted sum, the last convolution and the residual. Both programs do this with the same operations,
  so it is written once, as functions of the arrays it starts from; no operation in it is ever opened.
-/
module

public import proofs.«01_k».proof.Proof.Gen.KernelIdeal.Frame
public import Idealize.ShloMosaic.Lib.StableHlo.Run

@[expose] public section

set_option maxRecDepth 16384

noncomputable section

open Idealize.ShloMosaic Idealize.ShloMosaic.TcCoe Idealize.SL.Sem

namespace Cert.KernelIdeal.Tail

open Cert.KernelIdeal Cert.KernelIdeal.Gen

variable {F : FTy → Type} [FloatOps F]

/-- The hundred greatest entries of every row. -/
def best (x : Vec F S8192x8192 .f32) : Vec F S8192x100 .f32 :=
  (Host.topK S8192x100 1 (FloatOps.cmpfTotal .gt) x sliceFits_S8192x8192_S8192x100).1

/-- Where the hundred greatest entries of every row stand. -/
def bestAt (x : Vec F S8192x8192 .f32) : Vec F S8192x100 .i32 :=
  (Host.topK S8192x100 1 (FloatOps.cmpfTotal .gt) x sliceFits_S8192x8192_S8192x100).2

/-- One number per query, repeated along the query's hundred neighbours. -/
def spread (x : Vec F S8192 .f32) : Vec F S8192x100 .f32 :=
  broadcastInDim S8192x100 ![0, 1] bcast_S8192x1_S8192x100_0_1 (broadcastInDim S8192x1 ![0] bcast_S8192_S8192x1_0 x)

/-- Ten times the entries. -/
def scaled (x : Vec F S8192x100 .f32) : Vec F S8192x100 .f32 :=
  mulf x (broadcastInDim S8192x100 ![] bcast_S_S8192x100 (constant S_ .f32 0x41200000#32))

/-- The greatest entry of every row. -/
def rowMax (x : Vec F S8192x100 .f32) : Vec F S8192 .f32 :=
  maximumf (broadcastInDim S8192 ![] bcast_S_S8192 (constant S_ .f32 0xFF800000#32))
    (Host.reduce FloatOps.maximumf x (constant S_ .f32 0xFF800000#32) reducesTo_S8192x100_S8192_d1 h_S_)

/-- The exponentials of the entries, each lowered by the greatest of its row. -/
def lifted (x : Vec F S8192x100 .f32) : Vec F S8192x100 .f32 := Host.exp (subf x (spread (rowMax x)))

/-- Every entry over the sum of its row. -/
def normed (x : Vec F S8192x100 .f32) : Vec F S8192x100 .f32 :=
  Host.divf x (spread (Host.reduceAdd x (constant S_ .f32 0x00000000#32) reducesTo_S8192x100_S8192_d1 h_S_))

/-- The attention weights of every query's hundred neighbours. -/
def weights (x : Vec F S8192x8192 .f32) : Vec F S8192x100 .f32 := normed (lifted (scaled (best x)))

/-- The indices, those below zero counted from the end, each under a unit axis. -/
def wrapped (i : Vec F S8192x100 .i32) : Vec F S8192x100x1 .i32 :=
  broadcastInDim S8192x100x1 ![0, 1] bcast_S8192x100_S8192x100x1_0_1
    (select (cmpi .slt i (broadcastInDim S8192x100 ![] bcast_S_S8192x100 (constantI S_ 32 0#32)))
      (addi i (broadcastInDim S8192x100 ![] bcast_S_S8192x100 (constantI S_ 32 8192#32))) i)

/-- Which indices lie in the array. -/
def inside (i : Vec F S8192x100x1 .i32) : Vec F S8192x100 .i1 :=
  Host.reduce IntOp.andi
    (andi (cmpi .sge i (broadcastInDim S8192x100x1 ![] bcast_S_S8192x100x1 (constantI S_ 32 0#32)))
      (cmpi .sle i (broadcastInDim S8192x100x1 ![0, 1, 2] bcast_S1x1x1_S8192x100x1_0_1_2
        (broadcastInDim S1x1x1 ![2] bcast_S1_S1x1x1_2 (constantI S1 32 8191#32)))))
    (constantI S_ 1 1#1) reducesTo_S8192x100x1_S8192x100_d2 h_S_

/-- The rows of `v` at the indices. -/
def taken (v : Vec F S8192x16 .f32) (i : Vec F S8192x100 .i32) : Vec F S8192x100x16 .f32 :=
  select (broadcastInDim S8192x100x16 ![0, 1] bcast_S8192x100_S8192x100x16_0_1 (inside (F := F) (wrapped (F := F) i)))
    (Host.gather gather_S8192x16_S8192x100x1_S8192x100x16_2_0_n_n_0_2_116 v (wrapped (F := F) i))
    (broadcastInDim S8192x100x16 ![] bcast_S_S8192x100x16 (constant S_ .f32 0x7FC00000#32))

/-- The weighted sums of the rows, as an image of sixteen channels. -/
def mixed (w : Vec F S8192x100 .f32) (r : Vec F S8192x100x16 .f32) : Vec F S2x16x64x64 .f32 :=
  transpose S2x16x64x64 [0, 3, 1, 2] (shapeCast S2x64x64x16
    (Host.dotGeneral dot_S8192x100_S8192x100x16_S8192x16_1_1_n_2_0_0 none w r) shapeCasts_S8192x16_S2x64x64x16)
    transposes_S2x64x64x16_S2x16x64x64_0_3_1_2

/-- The last convolution, its bias and the residual. -/
def closing (x : Vec F S2x64x64x64 .f32) (a : Vec F S64x16 .f32) (b : Vec F S64 .f32) (y : Vec F S2x16x64x64 .f32) :
    Vec F S2x64x64x64 .f32 :=
  addf x (addf (transpose S2x64x64x64 [1, 0, 2, 3] (Host.dotGeneral dot_S64x16_S2x16x64x64_S64x2x64x64_1_1_0_023_n_n none a y)
      transposes_S64x2x64x64_S2x64x64x64_1_0_2_3)
    (broadcastInDim S2x64x64x64 ![0, 1, 2, 3] bcast_S1x64x1x1_S2x64x64x64_0_1_2_3
      (broadcastInDim S1x64x1x1 ![1] bcast_S64_S1x64x1x1_1 b)))

/-- The image which the layer returns, from the distances, the values, the last convolution and the input. -/
def image (dist : Vec F S8192x8192 .f32) (v : Vec F S8192x16 .f32) (x : Vec F S2x64x64x64 .f32) (a : Vec F S64x16 .f32)
    (b : Vec F S64 .f32) : Vec F S2x64x64x64 .f32 :=
  closing x a b (mixed (weights dist) (taken v (bestAt dist)))

variable (W : Valuation τ sig (Elt F))

/-- The first stretch leaves the neighbours' indices. -/
theorem after_bestAt : (StableHlo.after hostOps1 W (Proc.devRef .tc main_indices) : Vec F S8192x100 .i32)
    = bestAt (W (Proc.devRef .tc main_v18) : Vec F S8192x8192 .f32) := by
  after_results_simp
  rfl

/-- The first stretch leaves the attention weights. -/
theorem after_weights : (StableHlo.after hostOps1 W (Proc.devRef .tc main_v31) : Vec F S8192x100 .f32)
    = weights (W (Proc.devRef .tc main_v18) : Vec F S8192x8192 .f32) := by
  after_results_simp
  rfl

/-- The second stretch leaves the values at the indices. -/
theorem after_taken : (StableHlo.after hostOps1_1 W (Proc.devRef .tc main_v32) : Vec F S8192x100x16 .f32)
    = taken (W (Proc.devRef .tc main_v16) : Vec F S8192x16 .f32) (W (Proc.devRef .tc main_indices) : Vec F S8192x100 .i32) := by
  simp only [hostOps1_1, StableHlo.TRef.binary, StableHlo.TRef.nullary, StableHlo.TRef.ternary, StableHlo.TRef.unary,
    StableHlo.TRef.toBuf, StableHlo.TRef.ofBuf, cast_eq]
  after_results_simp
  rfl

/-- The third stretch leaves the image. -/
theorem after_closing : (StableHlo.after hostOps1_2 W (Proc.devRef .tc main_v41) : Vec F S2x64x64x64 .f32)
    = closing (W (Proc.devRef .tc main_arg0) : Vec F S2x64x64x64 .f32) (W (Proc.devRef .tc main_arg7) : Vec F S64x16 .f32)
        (W (Proc.devRef .tc main_arg8) : Vec F S64 .f32)
        (mixed (W (Proc.devRef .tc main_v31) : Vec F S8192x100 .f32) (W (Proc.devRef .tc main_v32) : Vec F S8192x100x16 .f32)) := by
  after_results_simp
  rfl

end Cert.KernelIdeal.Tail

end
-- ==== Proof.Reference.lean ====
/-
  What the reference computes: its projections of the image, its distances, and, on top of them, the same closing operations
  as the kernel's program.
-/
module

public import proofs.«01_k».proof.Proof.Tail
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Layer

open Cert.ReferenceIdeal Cert.ReferenceIdeal.Gen Cert.ReferenceIdeal.Value

variable {F : FTy → Type} [FloatOps F]

/-- A convolution with one tap and sixteen output channels, its pixels laid out as the rows of a matrix. -/
def pixels (x : Vec F S2x64x64x64 .f32) (a : Vec F S16x64 .f32) (b : Vec F S16 .f32) : Vec F S8192x16 .f32 :=
  shapeCast S8192x16 (transpose S2x64x64x16 [0, 2, 3, 1] (addf (transpose S2x16x64x64 [1, 0, 2, 3]
      (Host.dotGeneral dot_S16x64_S2x64x64x64_S16x2x64x64_1_1_0_023_n_n none a x) transposes_S16x2x64x64_S2x16x64x64_1_0_2_3)
    (broadcastInDim S2x16x64x64 ![0, 1, 2, 3] bcast_S1x16x1x1_S2x16x64x64_0_1_2_3
      (broadcastInDim S1x16x1x1 ![1] bcast_S16_S1x16x1x1_1 b))) transposes_S2x16x64x64_S2x64x64x16_0_2_3_1)
    shapeCasts_S2x64x64x16_S8192x16

/-- The sums of the squares of a matrix's rows. -/
def norms (x : Vec F S8192x16 .f32) : Vec F S8192 .f32 :=
  Host.reduceAdd (mulf x x) (constant S_ .f32 0x00000000#32) reducesTo_S8192x16_S8192_d1 h_S_

/-- The negated squared distances of all queries to all keys. -/
def dists (q k : Vec F S8192x16 .f32) : Vec F S8192x8192 .f32 :=
  Host.negf (addf
    (subf (broadcastInDim S8192x8192 ![0, 1] bcast_S8192x1_S8192x8192_0_1 (broadcastInDim S8192x1 ![0] bcast_S8192_S8192x1_0 (norms q)))
      (mulf (broadcastInDim S8192x8192 ![] bcast_S_S8192x8192 (constant S_ .f32 0x40000000#32))
        (Host.dotGeneral dot_S8192x16_S16x8192_S8192x8192_1_0_0_1_n_n none q (transpose S16x8192 [1, 0] k transposes_S8192x16_S16x8192_1_0))))
    (broadcastInDim S8192x8192 ![0, 1] bcast_S1x8192_S8192x8192_0_1 (broadcastInDim S1x8192 ![1] bcast_S8192_S1x8192_1 (norms k))))

variable (m : (ℓ : Loc nD τ sig) → Buf (Elt F) ℓ) (ρ : Dev nD → PrngReg)

/-- The image which the reference is given. -/
def input (c : Dev nD) : Vec F S2x64x64x64 .f32 := m ((c.tc : Thread nD τ).loc main_arg0)

/-- The reference's distances, from its arguments. -/
def allDists (c : Dev nD) : Vec F S8192x8192 .f32 :=
  dists (pixels (input m c) (m ((c.tc : Thread nD τ).loc main_arg1)) (m ((c.tc : Thread nD τ).loc main_arg2)))
    (pixels (input m c) (m ((c.tc : Thread nD τ).loc main_arg5)) (m ((c.tc : Thread nD τ).loc main_arg6)))

/-- The reference's image, from its arguments. -/
theorem image_eq (c : Dev nD) : (res_main_v58 m c : Vec F S2x64x64x64 .f32)
    = Cert.KernelIdeal.Tail.image (allDists m c)
        (pixels (input m c) (m ((c.tc : Thread nD τ).loc main_arg3)) (m ((c.tc : Thread nD τ).loc main_arg4)))
        (input m c) (m ((c.tc : Thread nD τ).loc main_arg7)) (m ((c.tc : Thread nD τ).loc main_arg8)) := by
  unfold res_main_v58
  rfl

/-- The reference runs and leaves its image and the indices of the neighbours. -/
theorem run_named : θ_run defs (onTc (τ := τ) (main (F := F))) ⟨m, fun _ => 0, ρ⟩ fun r => ∀ c : Dev nD,
    r.2.mem ((c.tc : Thread nD τ).loc main_v58) = res_main_v58 m c
    ∧ r.2.mem ((c.tc : Thread nD τ).loc main_indices) = Cert.KernelIdeal.Tail.bestAt (F := F) (allDists m c) :=
  (θ_run defs _ _).mono (fun _ h c => ⟨(h c).1, (h c).2.1⟩) (run m ρ)

end Cert.ReferenceIdeal.Layer

end
-- ==== Proof.Projection.lean ====
/-
  The projections: the kernel's program multiplies the pixels as rows by the transposed weights, the reference convolves the
  image and lays out the pixels afterwards. Entry by entry both are the same sum over the channels plus the same bias.
-/
module

public import proofs.«01_k».proof.Proof.Reference
public import Idealize.ShloMosaic.Lib.Pointwise

@[expose] public section

set_option maxRecDepth 16384

noncomputable section

open Idealize.ShloMosaic Idealize.ShloMosaic.TcCoe Idealize.SL.Sem

namespace Cert.KernelIdeal.Projection

open Cert.KernelIdeal Cert.KernelIdeal.Gen

section Host

variable {F : FTy → Type} [FloatOps F]

/-- The image's pixels as rows, times the transposed weights, plus the bias. -/
def rows (x : Vec F S2x64x64x64 .f32) (a : Vec F S16x64 .f32) (b : Vec F S16 .f32) : Vec F S8192x16 .f32 :=
  addf (Host.dotGeneral dot_S8192x64_S64x16_S8192x16_1_0_0_1_n_n none
      (shapeCast S8192x64 (transpose S2x64x64x64 [0, 2, 3, 1] x transposes_S2x64x64x64_S2x64x64x64_0_2_3_1)
        shapeCasts_S2x64x64x64_S8192x64)
      (transpose S64x16 [1, 0] a transposes_S16x64_S64x16_1_0))
    (broadcastInDim S8192x16 ![0, 1] bcast_S1x16_S8192x16_0_1 (broadcastInDim S1x16 ![1] bcast_S16_S1x16_1 b))

variable (m : (ℓ : Loc nD τ sig) → Buf (Elt F) ℓ) (c : Dev nD)

/-- The queries which the kernel is launched on. -/
theorem queries : (V m c main_v6 : Vec F S8192x16 .f32)
    = rows (m ((c.tc : Thread nD τ).loc main_arg0)) (m ((c.tc : Thread nD τ).loc main_arg1)) (m ((c.tc : Thread nD τ).loc main_arg2)) := by
  unfold V V0
  simp only [List.flatten_cons, List.flatten_nil, List.append_nil]
  after_results_simp
  rfl

/-- The keys which the kernel is launched on. -/
theorem keys : (V m c main_v17 : Vec F S16x8192 .f32)
    = transpose S16x8192 [1, 0] (rows (m ((c.tc : Thread nD τ).loc main_arg0)) (m ((c.tc : Thread nD τ).loc main_arg5))
        (m ((c.tc : Thread nD τ).loc main_arg6))) transposes_S8192x16_S16x8192_1_0 := by
  unfold V V0
  simp only [List.flatten_cons, List.flatten_nil, List.append_nil]
  after_results_simp
  rfl

/-- The values, computed before the launch and read after it. -/
theorem values : (V m c main_v16 : Vec F S8192x16 .f32)
    = rows (m ((c.tc : Thread nD τ).loc main_arg0)) (m ((c.tc : Thread nD τ).loc main_arg3)) (m ((c.tc : Thread nD τ).loc main_arg4)) := by
  unfold V V0
  simp only [List.flatten_cons, List.flatten_nil, List.append_nil]
  after_results_simp
  rfl

end Host

/-- The two ways to project an image agree. -/
theorem rows_eq_pixels (x : Vec Ideal S2x64x64x64 .f32) (a : Vec Ideal S16x64 .f32) (b : Vec Ideal S16 .f32) :
    rows x a b = Cert.ReferenceIdeal.Layer.pixels x a b := by
  funext y
  pointwise [rows, Cert.ReferenceIdeal.Layer.pixels]
  refine congrArg (· + _) (Finset.sum_congr rfl fun d _ => ?_)
  exact mul_comm _ _

end Cert.KernelIdeal.Projection

end
-- ==== Proof.Equation.lean ====
/-
  The kernel's array of distances is the reference's.
-/
module

public import proofs.«01_k».proof.Proof.Dists
public import proofs.«01_k».proof.Proof.Projection

@[expose] public section

set_option maxRecDepth 16384

noncomputable section

open Idealize.ShloMosaic Idealize.ShloMosaic.TcCoe Idealize.SL.Sem

namespace Cert.KernelIdeal.Equation

open Cert.KernelIdeal Cert.KernelIdeal.Gen Cert.KernelIdeal.Dists
open Cert.ReferenceIdeal.Layer (pixels dists norms)

/-- The reference's distances of queries `q` to keys `k`, entry by entry. -/
theorem reference_apply (q k : Vec Ideal S8192x16 .f32) (i j : Fin 8192) :
    dists q k (ix2 i j) = negDist (fun i d => q (ix2 i d)) (fun j d => k (ix2 j d)) i j := by
  unfold negDist sqNorm two
  rw [zero_sub]
  pointwise [dists, norms]

/-- The transposed keys, read the other way round. -/
theorem keys_apply (k : Vec Ideal S8192x16 .f32) (j : Fin 8192) (d : Fin 16) :
    transpose S16x8192 [1, 0] k transposes_S8192x16_S16x8192_1_0 (ix2 d j) = k (ix2 j d) := by
  pointwise

variable (m : (ℓ : Loc nD τ sig) → Buf (Elt Ideal) ℓ)

/-- After the run the kernel's array holds the reference's distances of the projected queries to the projected keys. -/
theorem array_eq (c : Dev nD) :
    ((dats m 0 c).arrAt 2 (cfgs 0).N : Vec Ideal S8192x8192 .f32) = dists
      (pixels (m ((c.tc : Thread nD τ).loc main_arg0)) (m ((c.tc : Thread nD τ).loc main_arg1)) (m ((c.tc : Thread nD τ).loc main_arg2)))
      (pixels (m ((c.tc : Thread nD τ).loc main_arg0)) (m ((c.tc : Thread nD τ).loc main_arg5)) (m ((c.tc : Thread nD τ).loc main_arg6))) := by
  rw [array, Projection.queries, Projection.keys, Projection.rows_eq_pixels, Projection.rows_eq_pixels]
  funext y
  obtain ⟨i, j, rfl⟩ : ∃ (i : Fin 8192) (j : Fin 8192), y = ix2 i j := ⟨y 0, y 1, eq_ix2 y⟩
  rw [reference_apply]
  simp only [keys_apply]
  rfl

end Cert.KernelIdeal.Equation

end
-- ==== Proof.Result.lean ====
/-
  What the kernel's program leaves in its two results: the closing operations, run on the array which the kernel leaves and on
  the values which were projected before the launch.
-/
module

public import proofs.«01_k».proof.Proof.Equation

@[expose] public section

set_option maxRecDepth 16384

noncomputable section

open Idealize.ShloMosaic Idealize.ShloMosaic.TcCoe Idealize.SL.Sem

namespace Cert.KernelIdeal.Result

open Cert.KernelIdeal Cert.KernelIdeal.Gen

variable {F : FTy → Type} [FloatOps F]
variable (m : (ℓ : Loc nD τ sig) → Buf (Elt F) ℓ) (c : Dev nD)

/-- What the memory holds when the kernel has returned and the host has not gone on. -/
def entry : Valuation τ sig (Elt F) :=
  Pipeline.withArrays (cfgs 0).spec c (V0 m c) fun w => (dats m 0 c).arrAt w (cfgs 0).N

/-- The distances stand in the kernel's result array. -/
theorem entry_dists : entry m c (Proc.devRef .tc main_v18) = (dats m 0 c).arrAt 2 (cfgs 0).N :=
  Pipeline.withArrays_arr (cfgs 0).spec launch0.win.arr_inj c (V0 m c) (fun w => (dats m 0 c).arrAt w (cfgs 0).N) 2

/-- Any other array still stands as the kernel was launched on it. -/
theorem entry_other (b : Ref sig .tc) (h : ∀ w, Pipeline.arrRef spec0 w ≠ b) : entry m c (Proc.devRef .tc b) = V m c b :=
  Pipeline.withArrays_of_ne _ c (V0 m c) _ b h

/-- One list of operations after another. -/
theorem after_both (l k : List (HloOp τ sig (Elt F))) (W : Valuation τ sig (Elt F)) :
    StableHlo.after (l ++ k) W = StableHlo.after k (StableHlo.after l W) := by
  induction l generalizing W with
  | nil => rfl
  | cons op l ih => exact ih _

/-- The contents at the end, stretch by stretch. -/
theorem end_eq (b : Ref sig .tc) :
    Pipeline.afterTail₀ cfgs (dats m) 0 (V0 m) [hostOps1, hostOps1_1, hostOps1_2] c b
      = StableHlo.after hostOps1_2 (StableHlo.after hostOps1_1 (StableHlo.after hostOps1 (entry m c))) (Proc.devRef .tc b) := by
  unfold Pipeline.afterTail₀ entry
  rw [List.flatten_cons, List.flatten_cons, List.flatten_cons, List.flatten_nil, List.append_nil, after_both, after_both]

section Kept

variable (W : Valuation τ sig (Elt F))

/-- The first stretch keeps the projected values. -/
theorem first_keeps_v16 : StableHlo.after hostOps1 W (Proc.devRef .tc main_v16) = W (Proc.devRef .tc main_v16) := by
  after_results_simp

/-- The first stretch keeps the image. -/
theorem first_keeps_arg0 : StableHlo.after hostOps1 W (Proc.devRef .tc main_arg0) = W (Proc.devRef .tc main_arg0) := by
  after_results_simp

/-- The first stretch keeps the last convolution's weights. -/
theorem first_keeps_arg7 : StableHlo.after hostOps1 W (Proc.devRef .tc main_arg7) = W (Proc.devRef .tc main_arg7) := by
  after_results_simp

/-- The first stretch keeps the last convolution's bias. -/
theorem first_keeps_arg8 : StableHlo.after hostOps1 W (Proc.devRef .tc main_arg8) = W (Proc.devRef .tc main_arg8) := by
  after_results_simp

/-- The second stretch keeps the neighbours' indices. -/
theorem second_keeps_indices : StableHlo.after hostOps1_1 W (Proc.devRef .tc main_indices) = W (Proc.devRef .tc main_indices) := by
  simp only [hostOps1_1, StableHlo.TRef.binary, StableHlo.TRef.nullary, StableHlo.TRef.ternary, StableHlo.TRef.unary]
  after_results_simp

/-- The second stretch keeps the attention weights. -/
theorem second_keeps_v31 : StableHlo.after hostOps1_1 W (Proc.devRef .tc main_v31) = W (Proc.devRef .tc main_v31) := by
  simp only [hostOps1_1, StableHlo.TRef.binary, StableHlo.TRef.nullary, StableHlo.TRef.ternary, StableHlo.TRef.unary]
  after_results_simp

/-- The second stretch keeps the image. -/
theorem second_keeps_arg0 : StableHlo.after hostOps1_1 W (Proc.devRef .tc main_arg0) = W (Proc.devRef .tc main_arg0) := by
  simp only [hostOps1_1, StableHlo.TRef.binary, StableHlo.TRef.nullary, StableHlo.TRef.ternary, StableHlo.TRef.unary]
  after_results_simp

/-- The second stretch keeps the last convolution's weights. -/
theorem second_keeps_arg7 : StableHlo.after hostOps1_1 W (Proc.devRef .tc main_arg7) = W (Proc.devRef .tc main_arg7) := by
  simp only [hostOps1_1, StableHlo.TRef.binary, StableHlo.TRef.nullary, StableHlo.TRef.ternary, StableHlo.TRef.unary]
  after_results_simp

/-- The second stretch keeps the last convolution's bias. -/
theorem second_keeps_arg8 : StableHlo.after hostOps1_1 W (Proc.devRef .tc main_arg8) = W (Proc.devRef .tc main_arg8) := by
  simp only [hostOps1_1, StableHlo.TRef.binary, StableHlo.TRef.nullary, StableHlo.TRef.ternary, StableHlo.TRef.unary]
  after_results_simp

/-- The third stretch keeps the neighbours' indices. -/
theorem third_keeps_indices : StableHlo.after hostOps1_2 W (Proc.devRef .tc main_indices) = W (Proc.devRef .tc main_indices) := by
  after_results_simp

end Kept

/-- The neighbours' indices at the end, from the array which the kernel leaves. -/
theorem indices_eq :
    (Pipeline.afterTail₀ cfgs (dats m) 0 (V0 m) [hostOps1, hostOps1_1, hostOps1_2] c main_indices : Vec F S8192x100 .i32)
      = Tail.bestAt ((dats m 0 c).arrAt 2 (cfgs 0).N : Vec F S8192x8192 .f32) := by
  rw [end_eq, third_keeps_indices, second_keeps_indices, Tail.after_bestAt, entry_dists]

/-- The image at the end, from the array which the kernel leaves and the values projected before the launch. -/
theorem image_eq :
    (Pipeline.afterTail₀ cfgs (dats m) 0 (V0 m) [hostOps1, hostOps1_1, hostOps1_2] c main_v41 : Vec F S2x64x64x64 .f32)
      = Tail.image ((dats m 0 c).arrAt 2 (cfgs 0).N : Vec F S8192x8192 .f32) (V m c main_v16 : Vec F S8192x16 .f32)
          (m ((c.tc : Thread nD τ).loc main_arg0)) (m ((c.tc : Thread nD τ).loc main_arg7)) (m ((c.tc : Thread nD τ).loc main_arg8)) := by
  rw [end_eq, Tail.after_closing, Tail.after_taken, second_keeps_arg0, second_keeps_arg7, second_keeps_arg8, second_keeps_v31,
    first_keeps_arg0, first_keeps_arg7, first_keeps_arg8, first_keeps_v16, Tail.after_bestAt, Tail.after_weights, entry_dists,
    entry_other m c main_v16 (by decide), entry_other m c main_arg0 (by decide), entry_other m c main_arg7 (by decide),
    entry_other m c main_arg8 (by decide), V_main_arg0, V_main_arg7, V_main_arg8]
  rfl

section Ideal

variable (m : (ℓ : Loc nD τ sig) → Buf (Elt Ideal) ℓ) (ρ : Dev nD → PrngReg)

open Cert.ReferenceIdeal.Layer (pixels dists)

/-- The distances of the projections of the image on device `c`. -/
def allDists (c : Dev nD) : Vec Ideal S8192x8192 .f32 := dists
  (pixels (m ((c.tc : Thread nD τ).loc main_arg0)) (m ((c.tc : Thread nD τ).loc main_arg1)) (m ((c.tc : Thread nD τ).loc main_arg2)))
  (pixels (m ((c.tc : Thread nD τ).loc main_arg0)) (m ((c.tc : Thread nD τ).loc main_arg5)) (m ((c.tc : Thread nD τ).loc main_arg6)))

/-- The image which the layer returns on device `c`. -/
def image (c : Dev nD) : Vec Ideal S2x64x64x64 .f32 := Tail.image (allDists m c)
  (pixels (m ((c.tc : Thread nD τ).loc main_arg0)) (m ((c.tc : Thread nD τ).loc main_arg3)) (m ((c.tc : Thread nD τ).loc main_arg4)))
  (m ((c.tc : Thread nD τ).loc main_arg0)) (m ((c.tc : Thread nD τ).loc main_arg7)) (m ((c.tc : Thread nD τ).loc main_arg8))

/-- The kernel's program runs and leaves the image and the neighbours' indices, both written as the reference writes them. -/
theorem run : θ_run defs (onTc (τ := τ) (main (F := Ideal))) ⟨m, fun _ => 0, ρ⟩ fun r => ∀ c : Dev nD,
    r.2.mem ((c.tc : Thread nD τ).loc main_v41) = image m c
    ∧ r.2.mem ((c.tc : Thread nD τ).loc main_indices) = Tail.bestAt (F := Ideal) (allDists m c) :=
  (θ_run defs _ _).mono (fun _ h c =>
    ⟨((h c).2 main_v41 (Pipeline.mem_restRefs_of main_v41 (by decide) (by decide))).trans
        ((image_eq m c).trans (by rw [Equation.array_eq, Projection.values, Projection.rows_eq_pixels]; rfl)),
      ((h c).2 main_indices (Pipeline.mem_restRefs_of main_indices (by decide) (by decide))).trans
        ((indices_eq m c).trans (by rw [Equation.array_eq]; rfl))⟩)
    (run_main m ρ)

end Ideal

end Cert.KernelIdeal.Result

end
-- ==== Proof.lean ====
/-
  The certificate: the three programs run and keep their arguments, the idealization rewrites nothing, and at the ideal instance
  the kernel's program and the reference return the same image and the same indices.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments, and has no counter that could be left above zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- From the same arguments the kernel's program and the reference return the same image and the same indices. -/
theorem same_results : Cert.algebraic_KernelIdeal_ReferenceIdeal
    (hKernelIdeal := Cert.KernelIdeal.Gen.facts) (hReferenceIdeal := Cert.ReferenceIdeal.Gen.facts) := by
  intro m ρ m' ρ' _ agree
  refine ⟨fun c => Cert.KernelIdeal.Result.image m c,
    fun c => Cert.KernelIdeal.Tail.bestAt (F := Ideal) (Cert.KernelIdeal.Result.allDists m c), ?_, ?_⟩
  · refine (θ_run Cert.KernelIdeal.defs _ _).mono (fun r h c => ⟨(h.1 c).1, (h.1 c).2, h.2 c⟩)
      (θ_run_and (Cert.KernelIdeal.Result.run m ρ) (Cert.KernelIdeal.Gen.unchanged (F := Ideal) m ρ))
  · refine (θ_run Cert.ReferenceIdeal.defs _ _).mono (fun r h c => ⟨?_, ?_, (h.2 c).2.2⟩)
      (θ_run_and (Cert.ReferenceIdeal.Layer.run_named (F := Ideal) m' ρ') (Cert.ReferenceIdeal.Value.run (F := Ideal) m' ρ'))
    all_goals obtain ⟨e0, e1, e2, e3, e4, e5, e6, e7, e8⟩ := agree c
    · refine (h.1 c).1.trans ((Cert.ReferenceIdeal.Layer.image_eq m' c).trans ?_)
      unfold Cert.KernelIdeal.Result.image Cert.KernelIdeal.Result.allDists Cert.ReferenceIdeal.Layer.allDists
        Cert.ReferenceIdeal.Layer.input
      rw [e0, e1, e2, e3, e4, e5, e6, e7, e8]
    · refine (h.1 c).2.trans ?_
      unfold Cert.KernelIdeal.Result.allDists Cert.ReferenceIdeal.Layer.allDists Cert.ReferenceIdeal.Layer.input
      rw [e0, e1, e2, e5, e6]

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference,
  trivial, same_results⟩

end Cert.Proof

end
